-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S4x1024x1152 : Shape := ⟨3, ![4, 1024, 1152]⟩
abbrev S4x1024 : Shape := ⟨2, ![4, 1024]⟩
abbrev S4x1024x3072 : Shape := ⟨3, ![4, 1024, 3072]⟩
abbrev S3072x1152 : Shape := ⟨2, ![3072, 1152]⟩
abbrev S3072 : Shape := ⟨1, ![3072]⟩
abbrev S3072x36 : Shape := ⟨2, ![3072, 36]⟩
abbrev S_ : Shape := ⟨0, ![]⟩

class Facts : Prop where
  bcast_S_S3072 : S_.BroadcastsInDim S3072 (![] : Fin 0 → Fin S3072.rank)

variable [Facts]

def fn {F : FTy → Type} [FloatOps F] (main_arg0 : FVec F S4x1024x1152 .fp8e4m3) (main_arg1 : FVec F S4x1024 .f32) (main_arg2 : FVec F S4x1024x3072 .fp8e5m2) (main_arg3 : FVec F S4x1024 .f32) (main_arg4 : FVec F S3072x1152 .fp8e4m3) (main_arg5 : FVec F S3072 .f32) (main_arg6 : IVec S3072x36 32) : IVec S3072 1 :=
  let main_cst : FVec F S_ .f32 := constant S_ .f32 0x00000000#32
  let main_v0 : FVec F S3072 .f32 := broadcastInDim S3072 ![] bcast_S_S3072 main_cst
  let main_v1 : IVec S3072 1 := cmpf .ogt main_arg5 main_v0
  main_v1
-- ==== Kernel.lean ====
abbrev S4x1024x1152 : Shape := ⟨3, ![4, 1024, 1152]⟩
abbrev S4x1024 : Shape := ⟨2, ![4, 1024]⟩
abbrev S4x1024x3072 : Shape := ⟨3, ![4, 1024, 3072]⟩
abbrev S3072x1152 : Shape := ⟨2, ![3072, 1152]⟩
abbrev S3072 : Shape := ⟨1, ![3072]⟩
abbrev S3072x36 : Shape := ⟨2, ![3072, 36]⟩
abbrev S4096x1152 : Shape := ⟨2, ![4096, 1152]⟩
abbrev S4096x3072 : Shape := ⟨2, ![4096, 3072]⟩
abbrev S1x3072 : Shape := ⟨2, ![1, 3072]⟩
abbrev S96x36 : Shape := ⟨2, ![96, 36]⟩
abbrev S4096x512 : Shape := ⟨2, ![4096, 512]⟩
abbrev S512x1152 : Shape := ⟨2, ![512, 1152]⟩
abbrev S1x512 : Shape := ⟨2, ![1, 512]⟩
abbrev S512x36 : Shape := ⟨2, ![512, 36]⟩
abbrev S16x36 : Shape := ⟨2, ![16, 36]⟩
abbrev S1152x4096 : Shape := ⟨2, ![1152, 4096]⟩
abbrev S4x40x512 : Shape := ⟨3, ![4, 40, 512]⟩
abbrev S1x256 : Shape := ⟨2, ![1, 256]⟩
abbrev S256x1152 : Shape := ⟨2, ![256, 1152]⟩
abbrev S1152x256 : Shape := ⟨2, ![1152, 256]⟩
abbrev S36x512 : Shape := ⟨2, ![36, 512]⟩
abbrev S288x4096 : Shape := ⟨2, ![288, 4096]⟩
abbrev S288x512 : Shape := ⟨2, ![288, 512]⟩
abbrev S512x288 : Shape := ⟨2, ![512, 288]⟩
abbrev S9x512 : Shape := ⟨2, ![9, 512]⟩
abbrev S8x512 : Shape := ⟨2, ![8, 512]⟩
abbrev S512 : Shape := ⟨1, ![512]⟩
abbrev S1x1x512 : Shape := ⟨3, ![1, 1, 512]⟩
abbrev S1x36x512 : Shape := ⟨3, ![1, 36, 512]⟩
abbrev S16x32x36 : Shape := ⟨3, ![16, 32, 36]⟩

abbrev nBuf : Space → Nat
  | .hbm => 14
  | .vmem => 21
  | .smem => 0
  | _ => 0

abbrev bufTy : (tb : Table) → Fin (tcTables nBuf tb) → BufTy
  | .hbm, ⟨0, _⟩ => ⟨S4x1024x1152, .fp8e4m3⟩
  | .hbm, ⟨1, _⟩ => ⟨S4x1024, .f32⟩
  | .hbm, ⟨2, _⟩ => ⟨S4x1024x3072, .fp8e5m2⟩
  | .hbm, ⟨3, _⟩ => ⟨S4x1024, .f32⟩
  | .hbm, ⟨4, _⟩ => ⟨S3072x1152, .fp8e4m3⟩
  | .hbm, ⟨5, _⟩ => ⟨S3072, .f32⟩
  | .hbm, ⟨6, _⟩ => ⟨S3072x36, .i32⟩
  | .hbm, ⟨7, _⟩ => ⟨S4096x1152, .fp8e4m3⟩
  | .hbm, ⟨8, _⟩ => ⟨S4096x3072, .fp8e5m2⟩
  | .hbm, ⟨9, _⟩ => ⟨S1x3072, .f32⟩
  | .hbm, ⟨10, _⟩ => ⟨S96x36, .f32⟩
  | .hbm, ⟨11, _⟩ => ⟨S3072x36, .f32⟩
  | .hbm, ⟨12, _⟩ => ⟨S96x36, .f32⟩
  | .hbm, ⟨13, _⟩ => ⟨S96x36, .f32⟩
  | .local _ .vmem, ⟨0, _⟩ => ⟨S4096x1152, .fp8e4m3⟩
  | .local _ .vmem, ⟨1, _⟩ => ⟨S4x1024, .f32⟩
  | .local _ .vmem, ⟨2, _⟩ => ⟨S4096x512, .fp8e5m2⟩
  | .local _ .vmem, ⟨3, _⟩ => ⟨S4096x512, .fp8e5m2⟩
  | .local _ .vmem, ⟨4, _⟩ => ⟨S4x1024, .f32⟩
  | .local _ .vmem, ⟨5, _⟩ => ⟨S512x1152, .fp8e4m3⟩
  | .local _ .vmem, ⟨6, _⟩ => ⟨S512x1152, .fp8e4m3⟩
  | .local _ .vmem, ⟨7, _⟩ => ⟨S1x512, .f32⟩
  | .local _ .vmem, ⟨8, _⟩ => ⟨S1x512, .f32⟩
  | .local _ .vmem, ⟨9, _⟩ => ⟨S512x36, .i32⟩
  | .local _ .vmem, ⟨10, _⟩ => ⟨S512x36, .i32⟩
  | .local _ .vmem, ⟨11, _⟩ => ⟨S16x36, .f32⟩
  | .local _ .vmem, ⟨12, _⟩ => ⟨S16x36, .f32⟩
  | .local _ .vmem, ⟨13, _⟩ => ⟨S512x36, .f32⟩
  | .local _ .vmem, ⟨14, _⟩ => ⟨S512x36, .f32⟩
  | .local _ .vmem, ⟨15, _⟩ => ⟨S16x36, .f32⟩
  | .local _ .vmem, ⟨16, _⟩ => ⟨S16x36, .f32⟩
  | .local _ .vmem, ⟨17, _⟩ => ⟨S16x36, .f32⟩
  | .local _ .vmem, ⟨18, _⟩ => ⟨S16x36, .f32⟩
  | .local _ .vmem, ⟨19, _⟩ => ⟨S1152x4096, .bf16⟩
  | .local _ .vmem, ⟨20, _⟩ => ⟨S4x40x512, .f32⟩
  | _, _ => ⟨S4x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1152 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x36 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x36 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x36 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x36 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x36 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x1024x1152 : Shape := ⟨3, ![4, 1024, 1152]⟩
abbrev S4x1024 : Shape := ⟨2, ![4, 1024]⟩
abbrev S4x1024x3072 : Shape := ⟨3, ![4, 1024, 3072]⟩
abbrev S3072x1152 : Shape := ⟨2, ![3072, 1152]⟩
abbrev S3072 : Shape := ⟨1, ![3072]⟩
abbrev S3072x36 : Shape := ⟨2, ![3072, 36]⟩
abbrev S96x36 : Shape := ⟨2, ![96, 36]⟩
abbrev S4x1024x1 : Shape := ⟨3, ![4, 1024, 1]⟩
abbrev S4096x1152 : Shape := ⟨2, ![4096, 1152]⟩
abbrev S4096x3072 : Shape := ⟨2, ![4096, 3072]⟩
abbrev S3072x36x1 : Shape := ⟨3, ![3072, 36, 1]⟩
abbrev S1x32 : Shape := ⟨2, ![1, 32]⟩
abbrev S32 : Shape := ⟨1, ![32]⟩
abbrev S1x1x32 : Shape := ⟨3, ![1, 1, 32]⟩
abbrev S3072x36x32 : Shape := ⟨3, ![3072, 36, 32]⟩
abbrev S3072x1 : Shape := ⟨2, ![3072, 1]⟩
abbrev S96x32x1152 : Shape := ⟨3, ![96, 32, 1152]⟩
abbrev S96x1152 : Shape := ⟨2, ![96, 1152]⟩
abbrev S96x36x32 : Shape := ⟨3, ![96, 36, 32]⟩

abbrev nBuf : Space → Nat
  | .hbm => 11
  | .vmem => 11
  | .smem => 0
  | _ => 0

abbrev bufTy : (tb : Table) → Fin (tcTables nBuf tb) → BufTy
  | .hbm, ⟨0, _⟩ => ⟨S4x1024x1152, .fp8e4m3⟩
  | .hbm, ⟨1, _⟩ => ⟨S4x1024, .f32⟩
  | .hbm, ⟨2, _⟩ => ⟨S4x1024x3072, .fp8e5m2⟩
  | .hbm, ⟨3, _⟩ => ⟨S4x1024, .f32⟩
  | .hbm, ⟨4, _⟩ => ⟨S3072x1152, .fp8e4m3⟩
  | .hbm, ⟨5, _⟩ => ⟨S3072, .f32⟩
  | .hbm, ⟨6, _⟩ => ⟨S3072x36, .i32⟩
  | .hbm, ⟨7, _⟩ => ⟨S96x36, .f32⟩
  | .hbm, ⟨8, _⟩ => ⟨S3072x36, .f32⟩
  | .hbm, ⟨9, _⟩ => ⟨S96x36, .f32⟩
  | .hbm, ⟨10, _⟩ => ⟨S96x36, .f32⟩
  | .local _ .vmem, ⟨0, _⟩ => ⟨S4x1024x1152, .fp8e4m3⟩
  | .local _ .vmem, ⟨1, _⟩ => ⟨S4x1024, .f32⟩
  | .local _ .vmem, ⟨2, _⟩ => ⟨S4x1024x3072, .fp8e5m2⟩
  | .local _ .vmem, ⟨3, _⟩ => ⟨S4x1024, .f32⟩
  | .local _ .vmem, ⟨4, _⟩ => ⟨S3072x1152, .fp8e4m3⟩
  | .local _ .vmem, ⟨5, _⟩ => ⟨S3072, .f32⟩
  | .local _ .vmem, ⟨6, _⟩ => ⟨S3072x36, .i32⟩
  | .local _ .vmem, ⟨7, _⟩ => ⟨S96x36, .f32⟩
  | .local _ .vmem, ⟨8, _⟩ => ⟨S3072x36, .f32⟩
  | .local _ .vmem, ⟨9, _⟩ => ⟨S96x36, .f32⟩
  | .local _ .vmem, ⟨10, _⟩ => ⟨S96x36, .f32⟩
  | _, _ => ⟨S4x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x1024x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x3072 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x36 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x36 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x36 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x36 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Rows.lean ====
/-
  The row statistics of one column tile, as the kernel computes them.

  The kernel's body writes the statistics scratch of shape [4, 40, 512] one row at a time: row r (r below 36, one 32-row
  block of the gradient) of plane 0 is the sum, and of plane 1 the maximum, of the absolute gradient over the block's
  pruned weights; of plane 2 the minimum, and of plane 3 the sum, of the absolute weight over the block's active ones.
  The printed program spells the 144 stores out, each with its own literal offsets and cut into different pieces. Here
  the four rows are stated once, as functions of the row number, and `statF` is the scratch they fill. A store whose
  payload is such a row agrees with `statF` at the indices it writes (`piece_eq`), and when every row was written
  (`Complete`) a later load of 36 rows of a plane reads `statF` (`canon_stat`).
-/
module

public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Rows

open Cert.KernelIdeal Cert.KernelIdeal.Gen Idealize.ShloMosaic Idealize.ShloMosaic.TcCoe

variable {F : FTy → Type} [FloatOps F]

/-! ## The slices in range, for every row at once -/

theorem inb_xt : ∀ r : Fin 36, ∀ a, (![288 * (r.val / 9), 0] : Fin 2 → Nat) a + S288x4096.size a ≤ S1152x4096.size a := by decide +kernel
theorem inb_w : ∀ r : Fin 36, ∀ a, (![0, 288 * (r.val / 9)] : Fin 2 → Nat) a + S512x288.size a ≤ S512x1152.size a := by decide +kernel
theorem slices_words : ∀ r : Fin 36, S36x512.Slices ![9 * (r.val / 9), 0] S9x512 := by decide +kernel
theorem slices_word : ∀ r : Fin 36, S9x512.Slices ![r.val % 9, 0] S1x512 := by decide +kernel
theorem slices_group : ∀ (r : Fin 36) (q : Fin 4), S288x512.Slices ![32 * (r.val % 9) + 8 * q.val, 0] S8x512 := by decide +kernel

/-! ## One row's vectors -/

section
variable (X : Vec F S1152x4096 .bf16) (DY : Vec F S4096x512 .fp8e5m2) (W : Vec F S512x1152 .fp8e4m3) (M : Vec F S512x36 .i32)
variable (r : Fin 36) (q : Fin 4)

/-- The gradient of the 288 features that hold row `r`. -/
def grad : FVec F S288x512 .f32 :=
  matmul dot_S288x4096_S4096x512_S288x512_1_0_0_1_n_n none
    (View.ld X (Rect.unit ![288 * (r.val / 9), 0] S288x4096.size (inb_xt r)))
    (shapeCast S4096x512 DY shapeCasts_S4096x512_S4096x512) (constant S288x512 .f32 0x00000000#32)

/-- The same features' weights, transposed. -/
def wt : FVec F S288x512 .f32 :=
  transpose S288x512 [1, 0] (extf .f32 (View.ld W (Rect.unit ![0, 288 * (r.val / 9)] S512x288.size (inb_w r))) bitsLt_fp8e4m3_f32)
    transposes_S512x288_p1_0_S288x512

/-- The row's mask word of each column, on eight sublanes. -/
def word : IVec S8x512 32 :=
  broadcastTo S8x512
    (shapeCast S1x512
      (extractStridedSlice S1x512 ![r.val % 9, 0]
        (extractStridedSlice S9x512 ![9 * (r.val / 9), 0] (transpose S36x512 [1, 0] M transposes_S512x36_p1_0_S36x512) (slices_words r))
        (slices_word r))
      shapeCasts_S1x512_S1x512)
    broadcasts_S1x512_S8x512

/-- Which of the group's eight weights are active. -/
def act : IVec S8x512 1 :=
  cmpi .eq
    (andi (shrsi (word M r) (addi (iota .tc S8x512 32 [0] iota_S8x512_d0_w32) (broadcast S8x512 (BitVec.ofNat 32 (8 * q.val)))))
      (broadcast S8x512 1#32))
    (broadcast S8x512 1#32)

/-- The group's absolute gradient, zero at active weights. -/
def gg : FVec F S8x512 .f32 :=
  select (act M r q) (broadcast S8x512 (Scalar.ofBits .f32 0x00000000#32))
    (absf (extractStridedSlice S8x512 ![32 * (r.val % 9) + 8 * q.val, 0] (grad X DY r) (slices_group r q)))

/-- The group's absolute weights. -/
def aw : FVec F S8x512 .f32 :=
  absf (extractStridedSlice S8x512 ![32 * (r.val % 9) + 8 * q.val, 0] (wt W r) (slices_group r q))

/-- The group's absolute weights, zero at pruned ones. -/
def wz : FVec F S8x512 .f32 := select (act M r q) (aw W r q) (broadcast S8x512 (Scalar.ofBits .f32 0x00000000#32))

/-- The group's absolute weights, infinite at pruned ones. -/
def wi : FVec F S8x512 .f32 := select (act M r q) (aw W r q) (broadcast S8x512 (Scalar.ofBits .f32 0x7F800000#32))

def rowSum : FVec F S1x512 .f32 :=
  shapeCast S1x512
    (multiReduction .add [0] S512 (addf (addf (addf (gg X DY M r 0) (gg X DY M r 1)) (gg X DY M r 2)) (gg X DY M r 3)) 0x00000000#32
      reduces_S8x512_S512 (.inl rfl) rfl) shapeCasts_S512_S1x512

def rowMax : FVec F S1x512 .f32 :=
  shapeCast S1x512
    (multiReduction .maximumf [0] S512 (maximumf (maximumf (maximumf (gg X DY M r 0) (gg X DY M r 1)) (gg X DY M r 2)) (gg X DY M r 3)) 0xFF800000#32
      reduces_S8x512_S512 (.inl rfl) rfl) shapeCasts_S512_S1x512

def rowMin : FVec F S1x512 .f32 :=
  shapeCast S1x512
    (multiReduction .minimumf [0] S512 (minimumf (minimumf (minimumf (wi W M r 0) (wi W M r 1)) (wi W M r 2)) (wi W M r 3)) 0x7F800000#32
      reduces_S8x512_S512 (.inl rfl) rfl) shapeCasts_S512_S1x512

def rowWSum : FVec F S1x512 .f32 :=
  shapeCast S1x512
    (multiReduction .add [0] S512 (addf (addf (addf (wz W M r 0) (wz W M r 1)) (wz W M r 2)) (wz W M r 3)) 0x00000000#32
      reduces_S8x512_S512 (.inl rfl) rfl) shapeCasts_S512_S1x512

/-- Row `r` of plane `t`. -/
def row (t : Fin 4) : FVec F S1x512 .f32 :=
  match t with
  | 0 => rowSum X DY M r
  | 1 => rowMax X DY M r
  | 2 => rowMin W M r
  | 3 => rowWSum W M r

end

section
variable (X : Vec F S1152x4096 .bf16) (DY : Vec F S4096x512 .fp8e5m2) (W : Vec F S512x1152 .fp8e4m3) (M : Vec F S512x36 .i32)

/-- The statistics scratch the rows fill (rows 36 to 39 are never written). -/
def statF (y : S4x40x512.Idx) : Elt F .f32 :=
  if h : (y 1).val < 36 then
    row X DY W M ⟨(y 1).val, h⟩ (y 0) (ix2 (0 : Fin 1) (y 2))
  else Scalar.ofBits .f32 0x00000000#32

/-- A store of row `r` of plane `t` agrees with the scratch at its own indices. -/
theorem piece_eq (t r : ℕ) (ht : t < 4) (hr : r < 36) (inb : ∀ a, (![t, r, 0] : Fin 3 → Nat) a + S1x1x512.size a ≤ S4x40x512.size a)
    (w : S1x1x512.Idx → Elt F .f32) (hw : w = shapeCast S1x1x512 (row X DY W M ⟨r, hr⟩ ⟨t, ht⟩) shapeCasts_S1x512_S1x1x512) :
    ∀ x : (Rect.unit (s := S4x40x512) ![t, r, 0] S1x1x512.size inb).shape.Idx,
      w x = statF X DY W M ((Rect.unit (s := S4x40x512) ![t, r, 0] S1x1x512.size inb).emb x) := by
  intro x
  have h0 : (x 0).val < 1 := (x 0).isLt
  have h1 : (x 1).val < 1 := (x 1).isLt
  have hx : (Rect.unit (s := S4x40x512) ![t, r, 0] S1x1x512.size inb).emb x
      = ix3 (⟨t, ht⟩ : Fin 4) (⟨r, by omega⟩ : Fin 40) (⟨(x 2).val, (x 2).isLt⟩ : Fin 512) := by
    funext a
    match a with
    | ⟨0, _⟩ => exact Fin.ext (by show t + 1 * (x 0).val = t; omega)
    | ⟨1, _⟩ => exact Fin.ext (by show r + 1 * (x 1).val = r; omega)
    | ⟨2, _⟩ => exact Fin.ext (by show 0 + 1 * (x 2).val = (x 2).val; omega)
  rw [hx, hw]
  unfold statF
  rw [dif_pos (show ((ix3 (⟨t, ht⟩ : Fin 4) (⟨r, by omega⟩ : Fin 40) (⟨(x 2).val, (x 2).isLt⟩ : Fin 512) : S4x40x512.Idx) 1).val < 36 from hr)]
  pointwise

/-- … so a list of such stores, one more of them at its head, is still one. -/
theorem pieces_cons (t r : ℕ) (ht : t < 4) (hr : r < 36) (inb : ∀ a, (![t, r, 0] : Fin 3 → Nat) a + S1x1x512.size a ≤ S4x40x512.size a)
    (w : S1x1x512.Idx → Elt F .f32) (L : List (View.Piece (Elt F) S4x40x512 .f32))
    (hw : w = shapeCast S1x1x512 (row X DY W M ⟨r, hr⟩ ⟨t, ht⟩) shapeCasts_S1x512_S1x1x512)
    (hL : View.PiecesOf (statF X DY W M) L) :
    View.PiecesOf (statF X DY W M) (⟨Rect.unit (s := S4x40x512) ![t, r, 0] S1x1x512.size inb, w⟩ :: L) :=
  ⟨piece_eq X DY W M t r ht hr inb w hw, hL⟩

/-- Every row of every plane is among the pieces: the check that the list is complete, by evaluation on the offsets alone. -/
def Complete (L : List (View.Piece (Elt F) S4x40x512 .f32)) : Bool :=
  (List.range 4).all fun t => (List.range 36).all fun r => L.any fun p =>
    p.1.off 0 == t && p.1.off 1 == r && p.1.off 2 == 0 && p.1.size 0 == 1 && p.1.size 1 == 1 && p.1.size 2 == 512
      && p.1.stride 0 == 1 && p.1.stride 1 == 1 && p.1.stride 2 == 1

theorem canon_stat (L : List (View.Piece (Elt F) S4x40x512 .f32)) (hL : View.PiecesOf (statF X DY W M) L) (hc : Complete L = true)
    (y : S4x40x512.Idx) (hy : (y 1).val < 36) : View.canon L y = statF X DY W M y := by
  refine View.canon_apply_of_pieces _ L hL.mem y ?_
  simp only [Complete, List.all_eq_true, List.mem_range, List.any_eq_true, Bool.and_eq_true, beq_iff_eq] at hc
  obtain ⟨p, hp, h⟩ := hc (y 0).val (y 0).isLt (y 1).val hy
  refine ⟨p, hp, (LoadRect.mem_set _).2 fun a => ?_⟩
  have h2 : (y 2).val < 512 := (y 2).isLt
  obtain ⟨⟨⟨⟨⟨⟨⟨⟨e0, e1⟩, e2⟩, s0⟩, s1⟩, s2⟩, t0⟩, t1⟩, t2⟩ := h
  match a with
  | ⟨0, _⟩ => exact ⟨0, by show 0 < p.1.size 0; omega, by show (y 0).val = p.1.off 0 + p.1.stride 0 * 0; omega⟩
  | ⟨1, _⟩ => exact ⟨0, by show 0 < p.1.size 1; omega, by show (y 1).val = p.1.off 1 + p.1.stride 1 * 0; omega⟩
  | ⟨2, _⟩ => exact ⟨(y 2).val, by show _ < p.1.size 2; omega, by show (y 2).val = p.1.off 2 + p.1.stride 2 * (y 2).val; rw [e2, t2]; omega⟩

end

end Cert.KernelIdeal.Rows

end
-- ==== Proof.Xt.lean ====
/-
  The transposed, scaled activations that the first grid point leaves in the kernel's carried scratch.

  The body writes the scratch of shape [1152, 4096] in sixteen pieces of 256 token columns. `xtF` states what they fill
  it with, and `canon_xt` that they do.
-/
module

public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 65536

noncomputable section

namespace Cert.KernelIdeal.Xt

open Cert.KernelIdeal Cert.KernelIdeal.Gen Idealize.ShloMosaic Idealize.ShloMosaic.TcCoe

variable {F : FTy → Type} [FloatOps F]

theorem inb_row : ∀ k : Fin 16, ∀ a, (![k.val / 4, 256 * (k.val % 4)] : Fin 2 → Nat) a + S1x256.size a ≤ S4x1024.size a := by decide +kernel
theorem inb_tok : ∀ k : Fin 16, ∀ a, (![256 * k.val, 0] : Fin 2 → Nat) a + S256x1152.size a ≤ S4096x1152.size a := by decide +kernel

section
variable (A : Vec F S4096x1152 .fp8e4m3) (XS DS : Vec F S4x1024 .f32)

/-- Columns 256 k to 256 k + 255. -/
def piece (k : Fin 16) : FVec F S1152x256 .bf16 :=
  shapeCast S1152x256
    (mulf
      (transpose S1152x256 [1, 0]
        (extf .bf16
          (shapeCast S256x1152 (View.ld A (Rect.unit ![256 * k.val, 0] S256x1152.size (inb_tok k))) shapeCasts_S256x1152_S256x1152)
          bitsLt_fp8e4m3_bf16)
        transposes_S256x1152_p1_0_S1152x256)
      (broadcastTo S1152x256
        (truncf .bf16
          (mulf (View.ld XS (Rect.unit ![k.val / 4, 256 * (k.val % 4)] S1x256.size (inb_row k)))
            (View.ld DS (Rect.unit ![k.val / 4, 256 * (k.val % 4)] S1x256.size (inb_row k))))
          bitsLt_bf16_f32)
        broadcasts_S1x256_S1152x256))
    shapeCasts_S1152x256_S1152x256

/-- The whole scratch. -/
def xtF (y : S1152x4096.Idx) : Elt F .bf16 :=
  piece A XS DS ⟨(y 1).val / 256, by have : (y 1).val < 4096 := (y 1).isLt; omega⟩
    (ix2 (y 0) (⟨(y 1).val % 256, by omega⟩ : Fin 256))

/-- A store of columns 256 k to 256 k + 255 agrees with the scratch at its own indices. -/
theorem piece_eq (o : ℕ) (hk : o / 256 < 16) (ho : o % 256 = 0) (inb : ∀ a, (![0, o] : Fin 2 → Nat) a + S1152x256.size a ≤ S1152x4096.size a)
    (w : S1152x256.Idx → Elt F .bf16) (hw : w = piece A XS DS ⟨o / 256, hk⟩) :
    ∀ x : (Rect.unit (s := S1152x4096) ![0, o] S1152x256.size inb).shape.Idx,
      w x = xtF A XS DS ((Rect.unit (s := S1152x4096) ![0, o] S1152x256.size inb).emb x) := by
  intro x
  have h1 : (x 1).val < 256 := (x 1).isLt
  have hx : (Rect.unit (s := S1152x4096) ![0, o] S1152x256.size inb).emb x
      = ix2 (⟨(x 0).val, (x 0).isLt⟩ : Fin 1152) (⟨o + (x 1).val, by omega⟩ : Fin 4096) := by
    funext a
    match a with
    | ⟨0, _⟩ => exact Fin.ext (by show 0 + 1 * (x 0).val = (x 0).val; omega)
    | ⟨1, _⟩ => exact Fin.ext (by show o + 1 * (x 1).val = o + (x 1).val; omega)
  rw [hx, hw]
  unfold xtF
  refine congrArg₂ (fun (k : Fin 16) (i : S1152x256.Idx) => piece A XS DS k i) (Fin.ext ?_) ?_
  · show o / 256 = (o + (x 1).val) / 256
    omega
  · funext a
    match a with
    | ⟨0, _⟩ => rfl
    | ⟨1, _⟩ => exact Fin.ext (by show (x 1).val = (o + (x 1).val) % 256; omega)

theorem pieces_cons (o : ℕ) (hk : o / 256 < 16) (ho : o % 256 = 0) (inb : ∀ a, (![0, o] : Fin 2 → Nat) a + S1152x256.size a ≤ S1152x4096.size a)
    (w : S1152x256.Idx → Elt F .bf16) (L : List (View.Piece (Elt F) S1152x4096 .bf16)) (hw : w = piece A XS DS ⟨o / 256, hk⟩)
    (hL : View.PiecesOf (xtF A XS DS) L) :
    View.PiecesOf (xtF A XS DS) (⟨Rect.unit (s := S1152x4096) ![0, o] S1152x256.size inb, w⟩ :: L) :=
  ⟨piece_eq A XS DS o hk ho inb w hw, hL⟩

end

variable (c : Dev nD) (arg1 : Memref sig .tc .vmem S4096x1152 .fp8e4m3) (harg1 : arg1.IsWhole)
  (arg2 : Memref sig .tc .vmem S4x1024 .f32) (harg2 : arg2.IsWhole) (arg4 : Memref sig .tc .vmem S4x1024 .f32) (harg4 : arg4.IsWhole)
  (x0 : Vec F S4096x1152 .fp8e4m3) (x1 : Vec F S4x1024 .f32) (x3 : Vec F S4x1024 .f32)

theorem pieces_xt :
    View.PiecesOf (xtF (arg1.view.read (Elt F) (harg1.unread x0)) (arg2.view.read (Elt F) (harg2.unread x1)) (arg4.view.read (Elt F) (harg4.unread x3)))
      (kernelRun0_A.sl.HS0_16 c arg1 harg1 arg2 harg2 arg4 harg4 x0 x1 x3) := by
  unfold kernelRun0_A.sl.HS0_16
  iterate 16
    refine pieces_cons _ _ _ _ (by decide) (by decide) (by decide) _ _ ?_ ?_
    · sl_kernel_rfl
  exact trivial

/-- What the sixteen stores leave. -/
theorem canon_xt : View.canon (kernelRun0_A.sl.HS0_16 c arg1 harg1 arg2 harg2 arg4 harg4 x0 x1 x3) = xtF x0 x1 x3 := by
  have h := pieces_xt c arg1 harg1 arg2 harg2 arg4 harg4 x0 x1 x3
  rw [harg1.read_unread, harg2.read_unread, harg4.read_unread] at h
  funext y
  exact View.canon_apply_of_pieces _ _ h.mem y (View.cover_of_tiledL (s := S1152x4096) _ S1152x256.size (by sl_kernel_rfl) y)

end Cert.KernelIdeal.Xt

end
-- ==== Proof.Stores.lean ====
/-
  The 144 stores of the statistics scratch, at the first grid point (case A, which has just written the activations) and at
  the later ones (case B, which finds them in the carried scratch): every payload is the row stated in Rows.lean, by
  definitional unfolding, and every row is there. So a load of 36 rows of a plane reads `statF` of the point's blocks.
-/
module

public import proofs.«01_k».proof.Proof.Rows
public import proofs.«01_k».proof.Proof.Xt

@[expose] public section

set_option maxRecDepth 65536

noncomputable section

namespace Cert.KernelIdeal.Rows

open Cert.KernelIdeal Cert.KernelIdeal.Gen Idealize.ShloMosaic Idealize.ShloMosaic.TcCoe

variable {F : FTy → Type} [FloatOps F]

section
variable (c : Dev nD) (arg1 : Memref sig .tc .vmem S4096x1152 .fp8e4m3) (harg1 : arg1.IsWhole)
  (arg2 : Memref sig .tc .vmem S4x1024 .f32) (harg2 : arg2.IsWhole) (arg3 : Memref sig .tc .vmem S4096x512 .fp8e5m2) (harg3 : arg3.IsWhole)
  (arg4 : Memref sig .tc .vmem S4x1024 .f32) (harg4 : arg4.IsWhole) (arg5 : Memref sig .tc .vmem S512x1152 .fp8e4m3) (harg5 : arg5.IsWhole)
  (arg7 : Memref sig .tc .vmem S512x36 .i32) (harg7 : arg7.IsWhole) (arg12 : Memref sig .tc .vmem S1152x4096 .bf16) (harg12 : arg12.IsWhole)
  (arg13 : Memref sig .tc .vmem S4x40x512 .f32)
  (x0 : Vec F S4096x1152 .fp8e4m3) (x1 : Vec F S4x1024 .f32) (x2 : Vec F S4096x512 .fp8e5m2) (x3 : Vec F S4x1024 .f32)
  (x4 : Vec F S512x1152 .fp8e4m3) (x6 : Vec F S512x36 .i32) (xs0 : Vec F S1152x4096 .bf16)

/-! ## The later points -/

theorem complete_B : Complete (kernelRun0_B.sl.HS1_144 c arg3 harg3 arg5 harg5 arg7 harg7 arg12 harg12 x2 x4 x6 xs0) = true := by
  sl_kernel_rfl

theorem pieces_B :
    View.PiecesOf (statF (arg12.view.read (Elt F) (harg12.unread xs0))
      (View.ld (arg3.view.read (Elt F) (harg3.unread x2)) (Rect.unit ![0, 0] S4096x512.size inb_S4096x512_S4096x512_0_0))
      (arg5.view.read (Elt F) (harg5.unread x4))
      (View.ld (arg7.view.read (Elt F) (harg7.unread x6)) (Rect.unit ![0, 0] S512x36.size inb_S512x36_S512x36_0_0)))
      (kernelRun0_B.sl.HS1_144 c arg3 harg3 arg5 harg5 arg7 harg7 arg12 harg12 x2 x4 x6 xs0) := by
  unfold kernelRun0_B.sl.HS1_144
  iterate 144
    refine pieces_cons _ _ _ _ _ _ (by decide) (by decide) (by decide) _ _ ?_ ?_
    · sl_kernel_rfl
  exact trivial

/-- A load that stays within rows 0 to 35 reads the statistics of the point's blocks and the carried activations. -/
theorem read_B (B : LoadRect S4x40x512) (hB : ∀ j, (B.idx j 1).val < 36) :
    arg13.view.readCov (kernelRun0_B.sl.HS1_144 c arg3 harg3 arg5 harg5 arg7 harg7 arg12 harg12 x2 x4 x6 xs0) B
      = fun j => statF xs0 x2 x4 x6 (B.idx j) := by
  have h := pieces_B c arg3 harg3 arg5 harg5 arg7 harg7 arg12 harg12 x2 x4 x6 xs0
  rw [harg12.read_unread, harg3.read_unread, harg5.read_unread, harg7.read_unread, View.ld_unit_lit _ _ (by decide),
    View.ld_unit_lit _ _ (by decide)] at h
  rw [View.readCov_eq_canon']
  funext j
  exact canon_stat _ _ _ _ _ h (complete_B ..) _ (hB j)

/-! ## The first point -/

theorem complete_A : Complete (kernelRun0_A.sl.HS1_144 c arg1 harg1 arg2 harg2 arg3 harg3 arg4 harg4 arg5 harg5 arg7 harg7 arg12 x0 x1 x2 x3 x4 x6) = true := by
  sl_kernel_rfl

theorem pieces_A :
    View.PiecesOf (statF (arg12.view.read (Elt F) (arg12.view.writes (Elt F) arg12.view.junk (kernelRun0_A.sl.HS0_16 c arg1 harg1 arg2 harg2 arg4 harg4 x0 x1 x3)))
      (View.ld (arg3.view.read (Elt F) (harg3.unread x2)) (Rect.unit ![0, 0] S4096x512.size inb_S4096x512_S4096x512_0_0))
      (arg5.view.read (Elt F) (harg5.unread x4))
      (View.ld (arg7.view.read (Elt F) (harg7.unread x6)) (Rect.unit ![0, 0] S512x36.size inb_S512x36_S512x36_0_0)))
      (kernelRun0_A.sl.HS1_144 c arg1 harg1 arg2 harg2 arg3 harg3 arg4 harg4 arg5 harg5 arg7 harg7 arg12 x0 x1 x2 x3 x4 x6) := by
  unfold kernelRun0_A.sl.HS1_144
  iterate 144
    refine pieces_cons _ _ _ _ _ _ (by decide) (by decide) (by decide) _ _ ?_ ?_
    · sl_kernel_rfl
  exact trivial

/-- A load that stays within rows 0 to 35 reads the statistics of the point's blocks and the activations just written. -/
theorem read_A (B : LoadRect S4x40x512) (hB : ∀ j, (B.idx j 1).val < 36) :
    arg13.view.readCov (kernelRun0_A.sl.HS1_144 c arg1 harg1 arg2 harg2 arg3 harg3 arg4 harg4 arg5 harg5 arg7 harg7 arg12 x0 x1 x2 x3 x4 x6) B
      = fun j => statF (Xt.xtF x0 x1 x3) x2 x4 x6 (B.idx j) := by
  have h := pieces_A c arg1 harg1 arg2 harg2 arg3 harg3 arg4 harg4 arg5 harg5 arg7 harg7 arg12 x0 x1 x2 x3 x4 x6
  rw [View.read_writes_junk_eq_canon, Xt.canon_xt, harg3.read_unread, harg5.read_unread, harg7.read_unread,
    View.ld_unit_lit _ _ (by decide), View.ld_unit_lit _ _ (by decide)] at h
  rw [View.readCov_eq_canon']
  funext j
  exact canon_stat _ _ _ _ _ h (complete_A ..) _ (hB j)

end

end Cert.KernelIdeal.Rows

end
-- ==== Proof.Outs.lean ====
/-
  What the body leaves in its four output blocks, as functions of the point's blocks and of the activations in the carried
  scratch: the same functions at the first grid point, which has just written the activations, and at the later ones.
-/
module

public import proofs.«01_k».proof.Proof.Stores

@[expose] public section

set_option maxRecDepth 16384

noncomputable section

namespace Cert.KernelIdeal.Outs

open Cert.KernelIdeal Cert.KernelIdeal.Gen Idealize.ShloMosaic Idealize.ShloMosaic.TcCoe
open Cert.KernelIdeal.Rows (statF read_A read_B)

variable {F : FTy → Type} [FloatOps F]

section
variable (X : Vec F S1152x4096 .bf16) (DY : Vec F S4096x512 .fp8e5m2) (W : Vec F S512x1152 .fp8e4m3) (WS : Vec F S1x512 .f32) (M : Vec F S512x36 .i32)

/-- Plane `t` of the statistics scratch, rows 0 to 35. -/
def plane (t : ℕ) (inb : ∀ a, (![t, 0, 0] : Fin 3 → Nat) a + S1x36x512.size a ≤ S4x40x512.size a) : Vec F S1x36x512 .f32 :=
  View.ld (statF X DY W M) (Rect.unit (s := S4x40x512) ![t, 0, 0] S1x36x512.size inb)

def growMax : FVec F S16x36 .f32 := k0_pay1039 (plane X DY W M 1 inb_S4x40x512_S1x36x512_1_0_0)
def growSum : FVec F S512x36 .f32 := k0_pay1038 (plane X DY W M 0 inb_S4x40x512_S1x36x512_0_0_0)
def dropMin : FVec F S16x36 .f32 := k0_pay1043 (k0_pay1041 (plane X DY W M 2 inb_S4x40x512_S1x36x512_2_0_0)) (k0_pay1042 WS)
def dropSum : FVec F S16x36 .f32 := k0_pay1044 (k0_pay1040 WS) (plane X DY W M 3 inb_S4x40x512_S1x36x512_3_0_0)

end

/-- The rows a plane's load reads are below 36. -/
theorem row_lt (t : ℕ) (inb : ∀ a, (![t, 0, 0] : Fin 3 → Nat) a + S1x36x512.size a ≤ S4x40x512.size a)
    (j : (Rect.unit (s := S4x40x512) ![t, 0, 0] S1x36x512.size inb).shape.Idx) :
    ((Rect.unit (s := S4x40x512) ![t, 0, 0] S1x36x512.size inb).toLoadRect.idx j 1).val < 36 := by
  have h : (j 1).val < 36 := (j 1).isLt
  show 0 + 1 * (j 1).val < 36
  omega

section
variable (c : Dev nD) (i : grid0.Coords) (arg1 : Memref sig .tc .vmem S4096x1152 .fp8e4m3) (harg1 : arg1.IsWhole) (arg2 : Memref sig .tc .vmem S4x1024 .f32) (harg2 : arg2.IsWhole) (arg3 : Memref sig .tc .vmem S4096x512 .fp8e5m2) (harg3 : arg3.IsWhole) (arg4 : Memref sig .tc .vmem S4x1024 .f32) (harg4 : arg4.IsWhole) (arg5 : Memref sig .tc .vmem S512x1152 .fp8e4m3) (harg5 : arg5.IsWhole) (arg6 : Memref sig .tc .vmem S1x512 .f32) (harg6 : arg6.IsWhole) (arg7 : Memref sig .tc .vmem S512x36 .i32) (harg7 : arg7.IsWhole) (arg8 : Memref sig .tc .vmem S16x36 .f32) (harg8 : arg8.IsWhole) (arg9 : Memref sig .tc .vmem S512x36 .f32) (harg9 : arg9.IsWhole) (arg10 : Memref sig .tc .vmem S16x36 .f32) (harg10 : arg10.IsWhole) (arg11 : Memref sig .tc .vmem S16x36 .f32) (harg11 : arg11.IsWhole) (arg12 : Memref sig .tc .vmem S1152x4096 .bf16) (harg12 : arg12.IsWhole) (arg13 : Memref sig .tc .vmem S4x40x512 .f32) (harg13 : arg13.IsWhole)
  (x0 : Vec F S4096x1152 .fp8e4m3) (x1 : Vec F S4x1024 .f32) (x2 : Vec F S4096x512 .fp8e5m2) (x3 : Vec F S4x1024 .f32) (x4 : Vec F S512x1152 .fp8e4m3) (x5 : Vec F S1x512 .f32) (x6 : Vec F S512x36 .i32) (xs0 : Vec F S1152x4096 .bf16)

set_option maxHeartbeats 2000000 in
/-- The first point's four outputs and the activations it leaves in the carried scratch. -/
theorem outs_A (hc0 : cond0_0 i) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = growMax (Xt.xtF x0 x1 x3) x2 x4 x6
      ∧ out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = growSum (Xt.xtF x0 x1 x3) x2 x4 x6
      ∧ out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = dropMin (Xt.xtF x0 x1 x3) x2 x4 x5 x6
      ∧ out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = dropSum (Xt.xtF x0 x1 x3) x2 x4 x5 x6
      ∧ sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = Xt.xtF x0 x1 x3 := by
  have rd : ∀ (t : ℕ) (inb : ∀ a, (![t, 0, 0] : Fin 3 → Nat) a + S1x36x512.size a ≤ S4x40x512.size a),
      arg13.view.readCov (kernelRun0_A.sl.HS1_144 c arg1 harg1 arg2 harg2 arg3 harg3 arg4 harg4 arg5 harg5 arg7 harg7 arg12 x0 x1 x2 x3 x4 x6)
        (Rect.unit (s := S4x40x512) ![t, 0, 0] S1x36x512.size inb).toLoadRect = plane (Xt.xtF x0 x1 x3) x2 x4 x6 t inb :=
    fun t inb => read_A (hB := row_lt t inb) ..
  have ws : View.ld (arg6.view.read (Elt F) (harg6.unread x5)) (Rect.unit ![0, 0] S1x512.size inb_S1x512_S1x512_0_0) = x5 := by
    rw [harg6.read_unread, View.ld_unit_lit _ _ (by decide)]
  unfold out0_A_7 out0_A_8 out0_A_9 out0_A_10 sout0_A_0
  rw [View.read_writes_junk_eq_canon, View.read_writes_junk_eq_canon, View.read_writes_junk_eq_canon, View.read_writes_junk_eq_canon,
    View.read_writes_junk_eq_canon]
  unfold kernelRun0_A
  dsimp only
  rw [View.canon_cons_unit_lit _ _ _ (by decide), View.canon_cons_unit_lit _ _ _ (by decide), View.canon_cons_unit_lit _ _ _ (by decide),
    View.canon_cons_unit_lit _ _ _ (by decide)]
  refine ⟨congrArg k0_pay1039 (rd 1 _), congrArg k0_pay1038 (rd 0 _),
    congrArg₂ (fun (p : Vec F S1x36x512 .f32) (s : Vec F S1x512 .f32) => k0_pay1043 (k0_pay1041 p) (k0_pay1042 s)) (rd 2 _) ws,
    congrArg₂ (fun (p : Vec F S1x36x512 .f32) (s : Vec F S1x512 .f32) => k0_pay1044 (k0_pay1040 s) p) (rd 3 _) ws, Xt.canon_xt ..⟩

set_option maxHeartbeats 2000000 in
/-- The later points' four outputs, over the activations they find. -/
theorem outs_B (hc0 : ¬cond0_0 i) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = growMax xs0 x2 x4 x6
      ∧ out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = growSum xs0 x2 x4 x6
      ∧ out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = dropMin xs0 x2 x4 x5 x6
      ∧ out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = dropSum xs0 x2 x4 x5 x6 := by
  have rd : ∀ (t : ℕ) (inb : ∀ a, (![t, 0, 0] : Fin 3 → Nat) a + S1x36x512.size a ≤ S4x40x512.size a),
      arg13.view.readCov (kernelRun0_B.sl.HS1_144 c arg3 harg3 arg5 harg5 arg7 harg7 arg12 harg12 x2 x4 x6 xs0)
        (Rect.unit (s := S4x40x512) ![t, 0, 0] S1x36x512.size inb).toLoadRect = plane xs0 x2 x4 x6 t inb :=
    fun t inb => read_B (hB := row_lt t inb) ..
  have ws : View.ld (arg6.view.read (Elt F) (harg6.unread x5)) (Rect.unit ![0, 0] S1x512.size inb_S1x512_S1x512_0_0) = x5 := by
    rw [harg6.read_unread, View.ld_unit_lit _ _ (by decide)]
  unfold out0_B_7 out0_B_8 out0_B_9 out0_B_10
  rw [View.read_writes_junk_eq_canon, View.read_writes_junk_eq_canon, View.read_writes_junk_eq_canon, View.read_writes_junk_eq_canon]
  unfold kernelRun0_B
  dsimp only
  rw [View.canon_cons_unit_lit _ _ _ (by decide), View.canon_cons_unit_lit _ _ _ (by decide), View.canon_cons_unit_lit _ _ _ (by decide),
    View.canon_cons_unit_lit _ _ _ (by decide)]
  refine ⟨congrArg k0_pay1039 (rd 1 _), congrArg k0_pay1038 (rd 0 _),
    congrArg₂ (fun (p : Vec F S1x36x512 .f32) (s : Vec F S1x512 .f32) => k0_pay1043 (k0_pay1041 p) (k0_pay1042 s)) (rd 2 _) ws,
    congrArg₂ (fun (p : Vec F S1x36x512 .f32) (s : Vec F S1x512 .f32) => k0_pay1044 (k0_pay1040 s) p) (rd 3 _) ws⟩

end

end Cert.KernelIdeal.Outs

end
-- ==== Proof.Points.lean ====
/-
  What every grid point leaves in its output blocks: the activations in the carried scratch are the ones the first point
  wrote, so each point's outputs are the same functions of its own blocks.
-/
module

public import proofs.«01_k».proof.Proof.Outs
public import proofs.«01_k».proof.Proof.Gen.KernelIdeal.Value

@[expose] public section

set_option maxRecDepth 16384

noncomputable section

namespace Cert.KernelIdeal.Points

open Cert.KernelIdeal Cert.KernelIdeal.Gen Cert.KernelIdeal.Outs Idealize.ShloMosaic Idealize.ShloMosaic.TcCoe

variable {F : FTy → Type} [FloatOps F]
variable (m : (ℓ : Loc nD τ sig) → Buf (Elt F) ℓ)

/-- The first grid point. -/
abbrev t₀ : Fin cfg0.N := ⟨0, by decide⟩

/-- The scaled activations, transposed, as the first point leaves them in the carried scratch. -/
def XT (c : Dev nD) : Vec F S1152x4096 .bf16 := Xt.xtF (iblk m c 0 t₀) (iblk m c 1 t₀) (iblk m c 3 t₀)

/-- The four output blocks and the carried scratch after point `t`. -/
def outs (c : Dev nD) (t : Fin cfg0.N) :
    Vec F S16x36 .f32 × Vec F S512x36 .f32 × Vec F S16x36 .f32 × Vec F S16x36 .f32 × Vec F S1152x4096 .bf16 :=
  (growMax (XT m c) (iblk m c 2 t) (iblk m c 4 t) (iblk m c 6 t),
    growSum (XT m c) (iblk m c 2 t) (iblk m c 4 t) (iblk m c 6 t),
    dropMin (XT m c) (iblk m c 2 t) (iblk m c 4 t) (iblk m c 5 t) (iblk m c 6 t),
    dropSum (XT m c) (iblk m c 2 t) (iblk m c 4 t) (iblk m c 5 t) (iblk m c 6 t),
    XT m c)

theorem outsAt_eq (c : Dev nD) : ∀ (n : ℕ) (hn : n < cfg0.N), outsAt0 m c n hn = outs m c ⟨n, hn⟩ := by
  intro n
  induction n with
  | zero =>
    intro hn
    refine (outsAt0_A m c ⟨0, hn⟩ rfl).trans ?_
    obtain ⟨e7, e8, e9, e10, es⟩ := outs_A (hc0 := (hcond0_0 ⟨0, hn⟩).mpr rfl) (c := c) (i := grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
    rw [e7, e8, e9, e10, es]
    rfl
  | succ k ih =>
    intro hn
    have hk : k + 1 < 6 := hn
    have h0 : ¬ (k + 1) % 6 = 0 := by omega
    refine (outsAt0_B m c ⟨k + 1, hn⟩ h0).trans ?_
    have hs : (outsAt0 m c (k + 1 - 1) (by omega)).2.2.2.2 = XT m c := by
      rw [show outsAt0 m c (k + 1 - 1) (by omega) = outs m c ⟨k, by omega⟩ from ih (by omega)]; rfl
    dsimp only
    rw [hs]
    obtain ⟨e7, e8, e9, e10⟩ := outs_B (hc0 := fun h => h0 ((hcond0_0 ⟨k + 1, hn⟩).mp h)) (c := c) (i := grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) (ms0_6 ⟨k + 1, hn⟩) (hs0_6 ⟨k + 1, hn⟩) (ms0_7 ⟨k + 1, hn⟩) (hs0_7 ⟨k + 1, hn⟩) (ms0_8 ⟨k + 1, hn⟩) (hs0_8 ⟨k + 1, hn⟩) (ms0_9 ⟨k + 1, hn⟩) (hs0_9 ⟨k + 1, hn⟩) (ms0_10 ⟨k + 1, hn⟩) (hs0_10 ⟨k + 1, hn⟩) scM0_0 (Memref.isWhole_whole _) scM0_1 (Memref.isWhole_whole _) (iblk m c 0 ⟨k + 1, hn⟩) (iblk m c 1 ⟨k + 1, hn⟩) (iblk m c 2 ⟨k + 1, hn⟩) (iblk m c 3 ⟨k + 1, hn⟩) (iblk m c 4 ⟨k + 1, hn⟩) (iblk m c 5 ⟨k + 1, hn⟩) (iblk m c 6 ⟨k + 1, hn⟩) (XT m c)
    rw [e7, e8, e9, e10]
    rfl

end Cert.KernelIdeal.Points

end
-- ==== Proof.Scores.lean ====
/-
  The arithmetic of the scores on the extended reals, with no program in it: a mask word's bits, a 32-element reduction
  taken as four groups of eight, and a positive factor moved through a minimum and through a sum.
-/
module

public import Idealize.ShloMosaic.Lib.Pointwise

@[expose] public section

noncomputable section

namespace Cert.Scores

open Idealize.ShloMosaic

/-! ## One weight's mask bit and magnitude -/

/-- Bit `i` of a mask word, tested against one. -/
def bit (word : BitVec 32) (i : ℕ) : BitVec 1 :=
  IntOp.cmpi .eq (IntOp.andi (IntOp.shrsi .vector word (BitVec.ofNat 32 i)) 1#32) 1#32

/-- The absolute value. -/
def mag (a : EReal) : EReal := max a (-a)

theorem mag_nonneg (a : EReal) : 0 ≤ mag a := by
  rcases le_total 0 a with h | h
  · exact le_max_of_le_left h
  · exact le_max_of_le_right (EReal.neg_nonneg.2 h)

/-- An infinite minimum (a block with nothing active) becomes zero. -/
def finite (z : EReal) : EReal := if mag z = ⊤ then 0 else z

/-! ## The 32 elements of a block row, as four groups of eight -/

/-- The place of element `s` of group `q` among the 32. -/
theorem place_lt (q : Fin 4) (s : Fin 8) : 8 * q.val + s.val < 32 := by omega

/-- The 32 elements as pairs of a group and a place in it. -/
def groups : Fin 4 × Fin 8 ≃ Fin 32 where
  toFun p := ⟨8 * p.1.val + p.2.val, place_lt p.1 p.2⟩
  invFun i := (⟨i.val / 8, by omega⟩, ⟨i.val % 8, by omega⟩)
  left_inv p := by
    refine Prod.ext (Fin.ext ?_) (Fin.ext ?_)
    · show (8 * p.1.val + p.2.val) / 8 = p.1.val
      omega
    · show (8 * p.1.val + p.2.val) % 8 = p.2.val
      omega
  right_inv i := Fin.ext (by show 8 * (i.val / 8) + i.val % 8 = i.val; omega)

theorem sum_groups (f : Fin 32 → EReal) :
    (∑ s : Fin 8, (f (groups (0, s)) + f (groups (1, s)) + f (groups (2, s)) + f (groups (3, s)))) = ∑ i, f i := by
  rw [← groups.sum_comp, Fintype.sum_prod_type, Fin.sum_univ_four]
  simp only [Finset.sum_add_distrib]

theorem iSup_groups {α : Type} [CompleteLinearOrder α] (f : Fin 32 → α) :
    (⨆ s : Fin 8, max (max (max (f (groups (0, s))) (f (groups (1, s)))) (f (groups (2, s)))) (f (groups (3, s)))) = ⨆ i, f i := by
  refine le_antisymm (iSup_le fun s => max_le (max_le (max_le ?_ ?_) ?_) ?_) (iSup_le fun i => ?_)
  iterate 4 exact le_iSup f _
  obtain ⟨⟨q, s⟩, rfl⟩ := groups.surjective i
  refine le_trans ?_ (le_iSup _ s)
  fin_cases q
  · exact le_max_of_le_left (le_max_of_le_left (le_max_left _ _))
  · exact le_max_of_le_left (le_max_of_le_left (le_max_right _ _))
  · exact le_max_of_le_left (le_max_right _ _)
  · exact le_max_right _ _

theorem iInf_groups (f : Fin 32 → EReal) :
    (⨅ s : Fin 8, min (min (min (f (groups (0, s))) (f (groups (1, s)))) (f (groups (2, s)))) (f (groups (3, s)))) = ⨅ i, f i :=
  iSup_groups (α := ERealᵒᵈ) f

/-! ## A reduction from its neutral element -/

theorem fold_max {n : ℕ} (f : Fin n → EReal) :
    Finset.fold max (Ideal.ofBits .f32 0xFF800000#32) f Finset.univ = ⨆ i, f i := by
  rw [show Ideal.ofBits .f32 0xFF800000#32 = ⊥ by simp [Ideal.ofBits, Ideal.ieee]]
  exact Finset.sup_univ_eq_iSup f

theorem top : Ideal.ofBits .f32 0x7F800000#32 = ⊤ := by simp [Ideal.ofBits, Ideal.ieee]

theorem fold_min {n : ℕ} (f : Fin n → EReal) :
    Finset.fold min (Ideal.ofBits .f32 0x7F800000#32) f Finset.univ = ⨅ i, f i := by
  rw [top]
  exact Finset.inf_univ_eq_iInf f

/-! ## The weight scale moved through the row's reductions -/

/-- A positive factor passes through a minimum. -/
theorem iInf_mul {n : ℕ} [NeZero n] (f : Fin n → EReal) (a : EReal) (ha : 0 ≤ a) : (⨅ i, f i) * a = ⨅ i, f i * a := by
  have hm : Monotone fun x : EReal => x * a := fun x y h => mul_le_mul_of_nonneg_right h ha
  refine le_antisymm (le_iInf fun i => hm (iInf_le f i)) ?_
  obtain ⟨i, hi⟩ := exists_eq_ciInf_of_finite (f := f)
  rw [← hi]
  exact iInf_le _ i

/-- A factor passes through a sum of non-negative terms. -/
theorem sum_mul {n : ℕ} (f : Fin n → EReal) (hf : ∀ i, 0 ≤ f i) (a : EReal) : (∑ i, f i) * a = ∑ i, f i * a := by
  have h : ∀ s : Finset (Fin n), 0 ≤ ∑ i ∈ s, f i ∧ (∑ i ∈ s, f i) * a = ∑ i ∈ s, f i * a := by
    intro s
    induction s using Finset.induction_on with
    | empty => simp
    | insert i s hi ih =>
      rw [Finset.sum_insert hi, Finset.sum_insert hi]
      exact ⟨add_nonneg (hf i) ih.1, by rw [EReal.right_distrib_of_nonneg (hf i) ih.1, ih.2]⟩
  exact (h Finset.univ).2

/-- A masked weight (zero where pruned) times the scale is the masked scaled weight. -/
theorem select_zero_mul (b : BitVec 1) (x a : EReal) : Scalar.select b x 0 * a = Scalar.select b (x * a) 0 := by
  unfold Scalar.select
  split <;> simp

/-- The same with infinity at pruned weights, the scale being positive. -/
theorem select_top_mul (b : BitVec 1) (x a : EReal) (ha : 0 < a) : Scalar.select b x ⊤ * a = Scalar.select b (x * a) ⊤ := by
  unfold Scalar.select
  split
  · rfl
  · exact EReal.top_mul_of_pos ha

/-- The product of a token's four factors, in the kernel's order and in the plain one. -/
theorem factors (x xs ds dy : EReal) : x * (xs * ds) * dy = dy * ds * (x * xs) := by
  ac_rfl

end Cert.Scores

end
-- ==== Proof.Reads.lean ====
/-
  The kernel's values at the ideal elements, read at an index: the scaled activations, the gradient of a 288-feature tile,
  the rows of the statistics scratch, and the four output blocks as reductions over 32 columns and 32 features.
-/
module

public import proofs.«01_k».proof.Proof.Points
public import proofs.«01_k».proof.Proof.Scores

@[expose] public section

set_option maxRecDepth 16384

noncomputable section

namespace Cert.KernelIdeal.Reads

open Cert.KernelIdeal Cert.KernelIdeal.Gen Cert.KernelIdeal.Rows Cert.KernelIdeal.Outs Cert.Scores
open Idealize.ShloMosaic Idealize.ShloMosaic.TcCoe

section
variable (A : Vec Ideal S4096x1152 .fp8e4m3) (XS DS : Vec Ideal S4x1024 .f32)

theorem xt_apply (d : Fin 1152) (k : Fin 4096) :
    Xt.xtF A XS DS (ix2 d k)
      = A (ix2 k d) * (XS (ix2 (⟨k.val / 1024, by omega⟩ : Fin 4) (⟨k.val % 1024, by omega⟩ : Fin 1024))
          * DS (ix2 (⟨k.val / 1024, by omega⟩ : Fin 4) (⟨k.val % 1024, by omega⟩ : Fin 1024))) := by
  unfold Xt.xtF Xt.piece
  pointwise
  have e0 : (⟨256 * (k.val / 256) + k.val % 256, by omega⟩ : Fin 4096) = k := Fin.ext (by dsimp only; omega)
  have e1 : (⟨k.val / 256 / 4, by omega⟩ : Fin 4) = ⟨k.val / 1024, by omega⟩ := Fin.ext (by dsimp only; omega)
  have e2 : (⟨256 * (k.val / 256 % 4) + k.val % 256, by omega⟩ : Fin 1024) = ⟨k.val % 1024, by omega⟩ :=
    Fin.ext (by dsimp only; omega)
  rw [e0, e1, e2]

end

section
variable (X : Vec Ideal S1152x4096 .bf16) (DY : Vec Ideal S4096x512 .fp8e5m2) (W : Vec Ideal S512x1152 .fp8e4m3) (WS : Vec Ideal S1x512 .f32)
  (M : Vec Ideal S512x36 .i32)

/-! ## One weight's values -/

/-- The mask bit of column `n`'s weight `d`. -/
def on (n : Fin 512) (d : Fin 1152) : BitVec 1 := bit (M (ix2 n (⟨d.val / 32, by omega⟩ : Fin 36))) (d.val % 32)

/-- Its absolute gradient, zero where the weight is active. -/
def grow (n : Fin 512) (d : Fin 1152) : EReal := Scalar.select (on M n d) 0 (mag (∑ k : Fin 4096, X (ix2 d k) * DY (ix2 k n)))

/-- Its absolute weight, and zero or infinity where the weight is pruned. -/
def weightZ (n : Fin 512) (d : Fin 1152) : EReal := Scalar.select (on M n d) (mag (W (ix2 n d))) 0
def weightT (n : Fin 512) (d : Fin 1152) : EReal := Scalar.select (on M n d) (mag (W (ix2 n d))) ⊤

/-- Feature `i` of the 32-feature block `r`. -/
def feature (r : Fin 36) (i : Fin 32) : Fin 1152 := ⟨r.val * 32 + i.val, by omega⟩

section
variable (r : Fin 36) (q : Fin 4)

theorem tile (s : Fin 8) :
    (⟨288 * (r.val / 9) + (32 * (r.val % 9) + 8 * q.val + s.val), by omega⟩ : Fin 1152) = feature r (groups (q, s)) :=
  Fin.ext (by dsimp only [feature, groups, Equiv.coe_fn_mk]; omega)

theorem grad_apply (e : Fin 288) (n : Fin 512) :
    grad X DY r (ix2 e n) = ∑ k : Fin 4096, X (ix2 (⟨288 * (r.val / 9) + e.val, by omega⟩ : Fin 1152) k) * DY (ix2 k n) := by
  unfold grad
  pointwise

theorem wt_apply (e : Fin 288) (n : Fin 512) :
    wt W r (ix2 e n) = W (ix2 n (⟨288 * (r.val / 9) + e.val, by omega⟩ : Fin 1152)) := by
  unfold wt
  pointwise

theorem act_apply (s : Fin 8) (n : Fin 512) : act M r q (ix2 s n) = on M n (feature r (groups (q, s))) := by
  unfold act word on bit
  pointwise
  have e0 : (⟨9 * (r.val / 9) + r.val % 9, by omega⟩ : Fin 36) = ⟨(feature r (groups (q, s))).val / 32, by omega⟩ :=
    Fin.ext (by dsimp only [feature, groups, Equiv.coe_fn_mk]; omega)
  have e1 : IntOp.addi (BitVec.ofNat 32 s.val) (BitVec.ofNat 32 (8 * q.val)) = BitVec.ofNat 32 ((feature r (groups (q, s))).val % 32) := by
    show BitVec.ofNat 32 s.val + BitVec.ofNat 32 (8 * q.val) = BitVec.ofNat 32 ((r.val * 32 + (8 * q.val + s.val)) % 32)
    rw [← BitVec.ofNat_add, show (r.val * 32 + (8 * q.val + s.val)) % 32 = s.val + 8 * q.val by omega]
  rw [e0, e1]

theorem gg_apply (s : Fin 8) (n : Fin 512) : gg X DY M r q (ix2 s n) = grow X DY M n (feature r (groups (q, s))) := by
  unfold gg grow
  pointwise
  rw [act_apply, grad_apply, tile]
  rfl

theorem aw_apply (s : Fin 8) (n : Fin 512) : aw W r q (ix2 s n) = mag (W (ix2 n (feature r (groups (q, s))))) := by
  unfold aw
  pointwise
  rw [wt_apply, tile]
  rfl

theorem wz_apply (s : Fin 8) (n : Fin 512) : wz W M r q (ix2 s n) = weightZ W M n (feature r (groups (q, s))) := by
  unfold wz weightZ
  pointwise
  rw [act_apply, aw_apply]

theorem wi_apply (s : Fin 8) (n : Fin 512) : wi W M r q (ix2 s n) = weightT W M n (feature r (groups (q, s))) := by
  unfold wi weightT
  pointwise
  rw [act_apply, aw_apply, top]

/-! ## The rows of the statistics scratch -/

theorem rowSum_apply (n : Fin 512) : rowSum X DY M r (ix2 (0 : Fin 1) n) = ∑ i : Fin 32, grow X DY M n (feature r i) := by
  unfold rowSum
  pointwise
  simp only [gg_apply]
  exact sum_groups fun i => grow X DY M n (feature r i)

theorem rowMax_apply (n : Fin 512) : rowMax X DY M r (ix2 (0 : Fin 1) n) = ⨆ i : Fin 32, grow X DY M n (feature r i) := by
  unfold rowMax
  pointwise
  rw [fold_max]
  simp only [gg_apply]
  exact iSup_groups fun i => grow X DY M n (feature r i)

theorem rowMin_apply (n : Fin 512) : rowMin W M r (ix2 (0 : Fin 1) n) = ⨅ i : Fin 32, weightT W M n (feature r i) := by
  unfold rowMin
  pointwise
  rw [fold_min]
  simp only [wi_apply]
  exact iInf_groups fun i => weightT W M n (feature r i)

theorem rowWSum_apply (n : Fin 512) : rowWSum W M r (ix2 (0 : Fin 1) n) = ∑ i : Fin 32, weightZ W M n (feature r i) := by
  unfold rowWSum
  pointwise
  simp only [wz_apply]
  exact sum_groups fun i => weightZ W M n (feature r i)

/-- Row `r` of plane `t` of the scratch. -/
theorem stat_apply (t : Fin 4) (n : Fin 512) :
    statF X DY W M (ix3 t (⟨r.val, by omega⟩ : Fin 40) n) = row X DY W M r t (ix2 (0 : Fin 1) n) := by
  unfold statF
  rw [dif_pos (show ((ix3 t (⟨r.val, by omega⟩ : Fin 40) n : S4x40x512.Idx) 1).val < 36 from r.isLt)]
  rfl

end

/-! ## The four output blocks -/

/-- Column `j` of the 32-column block `R` of a tile. -/
def column (R : Fin 16) (j : Fin 32) : Fin 512 := ⟨R.val * 32 + j.val, by omega⟩

theorem growSum_apply (n : Fin 512) (b : Fin 36) : growSum X DY W M (ix2 n b) = ∑ i : Fin 32, grow X DY M n (feature b i) := by
  unfold growSum k0_pay1038 plane
  pointwise
  exact (stat_apply X DY W M b 0 n).trans (rowSum_apply X DY M b n)

theorem growMax_apply (R : Fin 16) (b : Fin 36) :
    growMax X DY W M (ix2 R b) = ⨆ j : Fin 32, ⨆ i : Fin 32, grow X DY M (column R j) (feature b i) := by
  unfold growMax k0_pay1039 plane
  pointwise
  rw [fold_max]
  exact iSup_congr fun j => (stat_apply X DY W M b 1 (column R j)).trans (rowMax_apply X DY M b (column R j))

theorem dropMin_apply (R : Fin 16) (b : Fin 36) :
    dropMin X DY W WS M (ix2 R b)
      = finite (⨅ j : Fin 32, (⨅ i : Fin 32, weightT W M (column R j) (feature b i)) * WS (ix2 (0 : Fin 1) (column R j))) := by
  unfold dropMin k0_pay1043 k0_pay1042 k0_pay1041 k0_pay1040 plane finite
  pointwise
  rw [fold_min, top]
  have e : ∀ j : Fin 32, statF X DY W M (ix3 (2 : Fin 4) (⟨b.val, by omega⟩ : Fin 40) (column R j))
      = ⨅ i : Fin 32, weightT W M (column R j) (feature b i) :=
    fun j => (stat_apply X DY W M b 2 (column R j)).trans (rowMin_apply W M b (column R j))
  simp only [← e]
  rfl

theorem dropSum_apply (R : Fin 16) (b : Fin 36) :
    dropSum X DY W WS M (ix2 R b)
      = ∑ j : Fin 32, (∑ i : Fin 32, weightZ W M (column R j) (feature b i)) * WS (ix2 (0 : Fin 1) (column R j)) := by
  unfold dropSum k0_pay1044 k0_pay1040 plane
  pointwise
  refine Finset.sum_congr rfl fun j _ => ?_
  exact congrArg (· * WS (ix2 (0 : Fin 1) (column R j)))
    ((stat_apply X DY W M b 3 (column R j)).trans (rowWSum_apply W M b (column R j)))

end

end Cert.KernelIdeal.Reads

end
-- ==== Proof.Reference.lean ====
/-
  The plain reference's four results at the ideal elements, read at an index: reductions of the masked gradient and of the
  masked scaled weights over a block's 32 rows and 32 features.
-/
module

public import proofs.«01_k».proof.Proof.Gen.ReferenceIdeal.Value
public import proofs.«01_k».proof.Proof.Scores

@[expose] public section

set_option maxRecDepth 16384

noncomputable section

namespace Cert.ReferenceIdeal.Reads

open Cert.ReferenceIdeal Cert.ReferenceIdeal.Gen Cert.Scores
open Idealize.ShloMosaic Idealize.ShloMosaic.TcCoe

section
variable (x0 : Vec Ideal S4x1024x1152 .fp8e4m3) (x1 : Vec Ideal S4x1024 .f32) (x2 : Vec Ideal S4x1024x3072 .fp8e5m2) (x3 : Vec Ideal S4x1024 .f32)
  (x4 : Vec Ideal S3072x1152 .fp8e4m3) (x5 : Vec Ideal S3072 .f32) (x6 : Vec Ideal S3072x36 .i32)

/-! ## One weight's values -/

/-- Token `k`'s sequence, and its place there. -/
def seq (k : Fin 4096) : Fin 4 := ⟨k.val / 1024, by omega⟩
def pos (k : Fin 4096) : Fin 1024 := ⟨k.val % 1024, by omega⟩

/-- The mask bit of weight `d` of row `f`. -/
def on (f : Fin 3072) (d : Fin 1152) : BitVec 1 := bit (x6 (ix2 f (⟨d.val / 32, by omega⟩ : Fin 36))) (d.val % 32)

/-- Its absolute gradient, zero where the weight is active. -/
def grow (f : Fin 3072) (d : Fin 1152) : EReal :=
  Scalar.select (on x6 f d) 0
    (mag (∑ k : Fin 4096, x2 (ix3 (seq k) (pos k) f) * x3 (ix2 (seq k) (pos k)) * (x0 (ix3 (seq k) (pos k) d) * x1 (ix2 (seq k) (pos k)))))

/-- Its absolute scaled weight. -/
def weight (f : Fin 3072) (d : Fin 1152) : EReal := mag (x4 (ix2 f d)) * x5 (ix1 f)

/-- Feature `i` of the 32-feature block `b`, and row `j` of the 32-row block `R`. -/
def feature (b : Fin 36) (i : Fin 32) : Fin 1152 := ⟨b.val * 32 + i.val, by omega⟩
def rowOf (R : Fin 96) (j : Fin 32) : Fin 3072 := ⟨R.val * 32 + j.val, by omega⟩

theorem on_apply (f : Fin 3072) (d : Fin 1152) : k0_pay5 x6 (ix2 f d) = on x6 f d := by
  unfold k0_pay5 on bit
  pointwise

theorem weight_apply (f : Fin 3072) (d : Fin 1152) : k0_pay6 x4 x5 (ix2 f d) = weight x4 x5 f d := by
  unfold k0_pay6 weight
  pointwise
  rfl

theorem grow_apply (f : Fin 3072) (d : Fin 1152) : k0_pay7 x0 x1 x2 x3 x6 (ix2 f d) = grow x0 x1 x2 x3 x6 f d := by
  unfold k0_pay7 grow
  pointwise
  rw [on_apply]
  rfl

/-! ## The four results -/

theorem growSum_apply (f : Fin 3072) (b : Fin 36) :
    Value.G8 x0 x1 x2 x3 x4 x5 x6 (ix2 f b) = ∑ i : Fin 32, grow x0 x1 x2 x3 x6 f (feature b i) := by
  unfold Value.G8 k0_pay1 k0_pay8
  pointwise
  exact Finset.sum_congr rfl fun i _ => grow_apply x0 x1 x2 x3 x6 f (feature b i)

theorem growMax_apply (R : Fin 96) (b : Fin 36) :
    Value.G7 x0 x1 x2 x3 x4 x5 x6 (ix2 R b) = ⨆ i : Fin 32, ⨆ j : Fin 32, grow x0 x1 x2 x3 x6 (rowOf R j) (feature b i) := by
  unfold Value.G7 k0_pay2
  pointwise
  simp only [fold_max]
  exact iSup_congr fun i => iSup_congr fun j => grow_apply x0 x1 x2 x3 x6 (rowOf R j) (feature b i)

/-- The printed value of the third result, its loads and store read. -/
theorem dropMin_eq : Value.G9 x0 x1 x2 x3 x4 x5 x6 = k0_pay3 (k0_pay5 x6) (k0_pay6 x4 x5) := by
  rw [← Value.out9_eq]
  unfold out0_9 k0_pay9 k0_pay10
  rw [View.canon_unit_zero Value.hz9, View.ld_unit_zero (S := S3072x1152) Value.hz4 _ x4, View.ld_unit_zero (S := S3072) Value.hz5 _ x5,
    View.ld_unit_zero (S := S3072x36) Value.hz6 _ x6]

/-- The printed value of the fourth result, likewise. -/
theorem dropSum_eq : Value.G10 x0 x1 x2 x3 x4 x5 x6 = k0_pay4 (k0_pay5 x6) (k0_pay6 x4 x5) := by
  unfold Value.G10 k0_pay9 k0_pay10
  rw [View.ld_unit_zero (S := S3072x1152) Value.hz4 _ x4, View.ld_unit_zero (S := S3072) Value.hz5 _ x5,
    View.ld_unit_zero (S := S3072x36) Value.hz6 _ x6]

theorem dropMin_apply (R : Fin 96) (b : Fin 36) :
    Value.G9 x0 x1 x2 x3 x4 x5 x6 (ix2 R b)
      = finite (⨅ i : Fin 32, ⨅ j : Fin 32, Scalar.select (on x6 (rowOf R j) (feature b i)) (weight x4 x5 (rowOf R j) (feature b i)) ⊤) := by
  rw [dropMin_eq]
  unfold k0_pay3 finite
  pointwise
  simp only [fold_min, top, ← on_apply, ← weight_apply]
  rfl

theorem dropSum_apply (R : Fin 96) (b : Fin 36) :
    Value.G10 x0 x1 x2 x3 x4 x5 x6 (ix2 R b)
      = ∑ i : Fin 32, ∑ j : Fin 32, Scalar.select (on x6 (rowOf R j) (feature b i)) (weight x4 x5 (rowOf R j) (feature b i)) 0 := by
  rw [dropSum_eq]
  unfold k0_pay4
  pointwise
  simp only [← on_apply, ← weight_apply]
  rfl

end

end Cert.ReferenceIdeal.Reads

end
-- ==== Proof.Blocks.lean ====
/-
  The kernel's input blocks at the ideal elements, read as elements of the argument arrays: the activations and the upstream
  gradient are reshaped to one row a token before the launch, the weight scales to one row.
-/
module

public import proofs.«01_k».proof.Proof.Reads
public import proofs.«01_k».proof.Proof.Reference

@[expose] public section

set_option maxRecDepth 16384

noncomputable section

namespace Cert.KernelIdeal.Blocks

open Cert.KernelIdeal Cert.KernelIdeal.Gen Cert.KernelIdeal.Points
open Idealize.ShloMosaic Idealize.ShloMosaic.TcCoe
open Cert.ReferenceIdeal.Reads (seq pos)

variable (m : (ℓ : Loc nD τ sig) → Buf (Elt Ideal) ℓ) (c : Dev nD)

theorem idx : ∀ t : Fin cfg0.N,
    win0_0.index t = ![0, 0] ∧ win0_1.index t = ![0, 0] ∧ win0_2.index t = ![0, t.val] ∧ win0_3.index t = ![0, 0]
      ∧ win0_4.index t = ![t.val, 0] ∧ win0_5.index t = ![0, t.val] ∧ win0_6.index t = ![t.val, 0] ∧ win0_7.index t = ![t.val, 0]
      ∧ win0_8.index t = ![t.val, 0] ∧ win0_9.index t = ![t.val, 0] ∧ win0_10.index t = ![t.val, 0] := by
  decide +kernel

/-- Column `n` of tile `t`. -/
def col (t : Fin cfg0.N) (n : Fin 512) : Fin 3072 := ⟨t.val * 512 + n.val, by have : t.val < 6 := t.isLt; omega⟩

theorem x_apply (k : Fin 4096) (d : Fin 1152) :
    iblk m c 0 t₀ (ix2 k d) = m ((c : Thread nD τ).loc main_arg0) (ix3 (seq k) (pos k) d) := by
  unfold seq pos
  refine Eq.trans (b := V m c main_v0 (ix2 k d)) (by blk_ext [iblk, idx t₀]) ?_
  unfold V
  entry_read
  pointwise

theorem xs_apply (s : Fin 4) (p : Fin 1024) : iblk m c 1 t₀ (ix2 s p) = m ((c : Thread nD τ).loc main_arg1) (ix2 s p) := by
  blk_ext [iblk, V, idx t₀]

theorem dy_apply (t : Fin cfg0.N) (k : Fin 4096) (n : Fin 512) :
    iblk m c 2 t (ix2 k n) = m ((c : Thread nD τ).loc main_arg2) (ix3 (seq k) (pos k) (col t n)) := by
  unfold seq pos
  refine Eq.trans (b := V m c main_v1 (ix2 k (col t n))) (by unfold col; blk_ext [iblk, idx t]) ?_
  unfold V
  entry_read
  pointwise

theorem ds_apply (s : Fin 4) (p : Fin 1024) : iblk m c 3 t₀ (ix2 s p) = m ((c : Thread nD τ).loc main_arg3) (ix2 s p) := by
  blk_ext [iblk, V, idx t₀]

theorem w_apply (t : Fin cfg0.N) (n : Fin 512) (d : Fin 1152) :
    iblk m c 4 t (ix2 n d) = m ((c : Thread nD τ).loc main_arg4) (ix2 (col t n) d) := by
  unfold col
  blk_ext [iblk, V, idx t]

theorem ws_apply (t : Fin cfg0.N) (n : Fin 512) :
    iblk m c 5 t (ix2 (0 : Fin 1) n) = m ((c : Thread nD τ).loc main_arg5) (ix1 (col t n)) := by
  refine Eq.trans (b := V m c main_v2 (ix2 (0 : Fin 1) (col t n))) (by unfold col; blk_ext [iblk, idx t]) ?_
  unfold V
  entry_read
  pointwise

theorem word_apply (t : Fin cfg0.N) (n : Fin 512) (b : Fin 36) :
    iblk m c 6 t (ix2 n b) = m ((c : Thread nD τ).loc main_arg6) (ix2 (col t n) b) := by
  unfold col
  blk_ext [iblk, V, idx t]

end Cert.KernelIdeal.Blocks

end
-- ==== Proof.Arrays.lean ====
/-
  The equation: after the kernel's run each of its four result arrays is the reference's result of the same arguments. A
  grid point's weights are the reference's at the point's columns; the reductions are exchanged and, for the two scores of
  the weights, the scale is moved from the reduced row to the weight.
-/
module

public import proofs.«01_k».proof.Proof.Blocks

@[expose] public section

set_option maxRecDepth 16384

noncomputable section

namespace Cert.KernelIdeal.Arrays

open Cert.KernelIdeal Cert.KernelIdeal.Gen Cert.KernelIdeal.Points Cert.KernelIdeal.Blocks Cert.Scores
open Cert.KernelIdeal.Reads (feature column)
open Idealize.ShloMosaic Idealize.ShloMosaic.TcCoe
open Cert.ReferenceIdeal.Reads (seq pos rowOf)

variable (m : (ℓ : Loc nD τ sig) → Buf (Elt Ideal) ℓ) (c : Dev nD)

/-- The argument arrays. -/
abbrev a0 : Vec Ideal S4x1024x1152 .fp8e4m3 := m ((c : Thread nD τ).loc main_arg0)
abbrev a1 : Vec Ideal S4x1024 .f32 := m ((c : Thread nD τ).loc main_arg1)
abbrev a2 : Vec Ideal S4x1024x3072 .fp8e5m2 := m ((c : Thread nD τ).loc main_arg2)
abbrev a3 : Vec Ideal S4x1024 .f32 := m ((c : Thread nD τ).loc main_arg3)
abbrev a4 : Vec Ideal S3072x1152 .fp8e4m3 := m ((c : Thread nD τ).loc main_arg4)
abbrev a5 : Vec Ideal S3072 .f32 := m ((c : Thread nD τ).loc main_arg5)
abbrev a6 : Vec Ideal S3072x36 .i32 := m ((c : Thread nD τ).loc main_arg6)

/-! ## One weight -/

theorem on_eq (t : Fin cfg0.N) (n : Fin 512) (d : Fin 1152) :
    Reads.on (iblk m c 6 t) n d = Cert.ReferenceIdeal.Reads.on (a6 m c) (col t n) d := by
  unfold Reads.on Cert.ReferenceIdeal.Reads.on
  rw [word_apply]

/-- The kernel's gradient of a weight is the reference's: the two scales of a token multiply in another order. -/
theorem grow_eq (t : Fin cfg0.N) (n : Fin 512) (d : Fin 1152) :
    Reads.grow (XT m c) (iblk m c 2 t) (iblk m c 6 t) n d
      = Cert.ReferenceIdeal.Reads.grow (a0 m c) (a1 m c) (a2 m c) (a3 m c) (a6 m c) (col t n) d := by
  unfold Reads.grow Cert.ReferenceIdeal.Reads.grow XT
  rw [on_eq]
  refine congrArg (fun s : EReal => Scalar.select _ 0 (mag s)) (Finset.sum_congr rfl fun k _ => ?_)
  rw [Reads.xt_apply, x_apply, xs_apply, ds_apply, dy_apply]
  exact factors _ _ _ _

theorem weightZ_eq (t : Fin cfg0.N) (n : Fin 512) (d : Fin 1152) :
    Reads.weightZ (iblk m c 4 t) (iblk m c 6 t) n d * iblk m c 5 t (ix2 (0 : Fin 1) n)
      = Scalar.select (Cert.ReferenceIdeal.Reads.on (a6 m c) (col t n) d) (Cert.ReferenceIdeal.Reads.weight (a4 m c) (a5 m c) (col t n) d) 0 := by
  unfold Reads.weightZ Cert.ReferenceIdeal.Reads.weight
  rw [on_eq, w_apply, ws_apply]
  exact select_zero_mul _ _ _

theorem weightT_eq (hpos : ∀ f : Fin 3072, (0 : EReal) < a5 m c (ix1 f)) (t : Fin cfg0.N) (n : Fin 512) (d : Fin 1152) :
    Reads.weightT (iblk m c 4 t) (iblk m c 6 t) n d * iblk m c 5 t (ix2 (0 : Fin 1) n)
      = Scalar.select (Cert.ReferenceIdeal.Reads.on (a6 m c) (col t n) d) (Cert.ReferenceIdeal.Reads.weight (a4 m c) (a5 m c) (col t n) d) ⊤ := by
  unfold Reads.weightT Cert.ReferenceIdeal.Reads.weight
  rw [on_eq, w_apply, ws_apply]
  exact select_top_mul _ _ _ (hpos _)

theorem weightZ_nonneg (t : Fin cfg0.N) (n : Fin 512) (d : Fin 1152) : 0 ≤ Reads.weightZ (iblk m c 4 t) (iblk m c 6 t) n d := by
  unfold Reads.weightZ Scalar.select
  split
  · exact mag_nonneg _
  · exact le_rfl

/-! ## One block of each result -/

/-- Row block `R` of tile `t`. -/
def blockRow (t : Fin cfg0.N) (R : Fin 16) : Fin 96 := ⟨t.val * 16 + R.val, by have : t.val < 6 := t.isLt; omega⟩

theorem col_column (t : Fin cfg0.N) (R : Fin 16) (j : Fin 32) : col t (column R j) = rowOf (blockRow t R) j :=
  Fin.ext (by dsimp only [col, column, rowOf, blockRow]; omega)

theorem growMax_eq (t : Fin cfg0.N) (R : Fin 16) (b : Fin 36) :
    Outs.growMax (XT m c) (iblk m c 2 t) (iblk m c 4 t) (iblk m c 6 t) (ix2 R b)
      = Cert.ReferenceIdeal.Value.G7 (a0 m c) (a1 m c) (a2 m c) (a3 m c) (a4 m c) (a5 m c) (a6 m c) (ix2 (blockRow t R) b) := by
  rw [Reads.growMax_apply, Cert.ReferenceIdeal.Reads.growMax_apply, iSup_comm]
  refine iSup_congr fun i => iSup_congr fun j => ?_
  rw [grow_eq, col_column]
  rfl

theorem growSum_eq (t : Fin cfg0.N) (n : Fin 512) (b : Fin 36) :
    Outs.growSum (XT m c) (iblk m c 2 t) (iblk m c 4 t) (iblk m c 6 t) (ix2 n b)
      = Cert.ReferenceIdeal.Value.G8 (a0 m c) (a1 m c) (a2 m c) (a3 m c) (a4 m c) (a5 m c) (a6 m c) (ix2 (col t n) b) := by
  rw [Reads.growSum_apply, Cert.ReferenceIdeal.Reads.growSum_apply]
  refine Finset.sum_congr rfl fun i _ => ?_
  rw [grow_eq]
  rfl

theorem dropMin_eq (hpos : ∀ f : Fin 3072, (0 : EReal) < a5 m c (ix1 f)) (t : Fin cfg0.N) (R : Fin 16) (b : Fin 36) :
    Outs.dropMin (XT m c) (iblk m c 2 t) (iblk m c 4 t) (iblk m c 5 t) (iblk m c 6 t) (ix2 R b)
      = Cert.ReferenceIdeal.Value.G9 (a0 m c) (a1 m c) (a2 m c) (a3 m c) (a4 m c) (a5 m c) (a6 m c) (ix2 (blockRow t R) b) := by
  rw [Reads.dropMin_apply, Cert.ReferenceIdeal.Reads.dropMin_apply, iInf_comm]
  refine congrArg finite (iInf_congr fun j => ?_)
  rw [iInf_mul _ _ (by rw [ws_apply]; exact (hpos _).le)]
  refine iInf_congr fun i => ?_
  rw [weightT_eq m c hpos, col_column]
  rfl

theorem dropSum_eq (t : Fin cfg0.N) (R : Fin 16) (b : Fin 36) :
    Outs.dropSum (XT m c) (iblk m c 2 t) (iblk m c 4 t) (iblk m c 5 t) (iblk m c 6 t) (ix2 R b)
      = Cert.ReferenceIdeal.Value.G10 (a0 m c) (a1 m c) (a2 m c) (a3 m c) (a4 m c) (a5 m c) (a6 m c) (ix2 (blockRow t R) b) := by
  rw [Reads.dropSum_apply, Cert.ReferenceIdeal.Reads.dropSum_apply, Finset.sum_comm]
  refine Finset.sum_congr rfl fun j _ => ?_
  rw [sum_mul _ fun i => weightZ_nonneg m c t _ _]
  refine Finset.sum_congr rfl fun i _ => ?_
  rw [weightZ_eq, col_column]
  rfl

/-! ## The four result arrays -/

theorem final7 : (dats m 0 c).arrAt 7 cfg0.N
    = Cert.ReferenceIdeal.Value.G7 (a0 m c) (a1 m c) (a2 m c) (a3 m c) (a4 m c) (a5 m c) (a6 m c) := by
  have h := growMax_eq m c
  generalize Cert.ReferenceIdeal.Value.G7 (a0 m c) (a1 m c) (a2 m c) (a3 m c) (a4 m c) (a5 m c) (a6 m c) = G at h ⊢
  refine (dats m 0 c).arrAt_eq_of_covers 7 _ (by decide +kernel) fun t hf y => ?_
  blk_simp
  rw [after0_7, outsAt_eq]
  obtain ⟨R, b, rfl⟩ : ∃ (R : Fin 16) (b : Fin 36), y = ix2 R b := ⟨y 0, y 1, eq_ix2 y⟩
  unfold outs
  dsimp only
  rw [h t R b]
  unfold blockRow
  blk_ext [idx t]

theorem final8 : (dats m 0 c).arrAt 8 cfg0.N
    = Cert.ReferenceIdeal.Value.G8 (a0 m c) (a1 m c) (a2 m c) (a3 m c) (a4 m c) (a5 m c) (a6 m c) := by
  have h := growSum_eq m c
  generalize Cert.ReferenceIdeal.Value.G8 (a0 m c) (a1 m c) (a2 m c) (a3 m c) (a4 m c) (a5 m c) (a6 m c) = G at h ⊢
  refine (dats m 0 c).arrAt_eq_of_covers 8 _ (by decide +kernel) fun t hf y => ?_
  blk_simp
  rw [after0_8, outsAt_eq]
  obtain ⟨n, b, rfl⟩ : ∃ (n : Fin 512) (b : Fin 36), y = ix2 n b := ⟨y 0, y 1, eq_ix2 y⟩
  unfold outs
  dsimp only
  rw [h t n b]
  unfold col
  blk_ext [idx t]

theorem final9 (hpos : ∀ f : Fin 3072, (0 : EReal) < a5 m c (ix1 f)) : (dats m 0 c).arrAt 9 cfg0.N
    = Cert.ReferenceIdeal.Value.G9 (a0 m c) (a1 m c) (a2 m c) (a3 m c) (a4 m c) (a5 m c) (a6 m c) := by
  have h := dropMin_eq m c hpos
  generalize Cert.ReferenceIdeal.Value.G9 (a0 m c) (a1 m c) (a2 m c) (a3 m c) (a4 m c) (a5 m c) (a6 m c) = G at h ⊢
  refine (dats m 0 c).arrAt_eq_of_covers 9 _ (by decide +kernel) fun t hf y => ?_
  blk_simp
  rw [after0_9, outsAt_eq]
  obtain ⟨R, b, rfl⟩ : ∃ (R : Fin 16) (b : Fin 36), y = ix2 R b := ⟨y 0, y 1, eq_ix2 y⟩
  unfold outs
  dsimp only
  rw [h t R b]
  unfold blockRow
  blk_ext [idx t]

theorem final10 : (dats m 0 c).arrAt 10 cfg0.N
    = Cert.ReferenceIdeal.Value.G10 (a0 m c) (a1 m c) (a2 m c) (a3 m c) (a4 m c) (a5 m c) (a6 m c) := by
  have h := dropSum_eq m c
  generalize Cert.ReferenceIdeal.Value.G10 (a0 m c) (a1 m c) (a2 m c) (a3 m c) (a4 m c) (a5 m c) (a6 m c) = G at h ⊢
  refine (dats m 0 c).arrAt_eq_of_covers 10 _ (by decide +kernel) fun t hf y => ?_
  blk_simp
  rw [after0_10, outsAt_eq]
  obtain ⟨R, b, rfl⟩ : ∃ (R : Fin 16) (b : Fin 36), y = ix2 R b := ⟨y 0, y 1, eq_ix2 y⟩
  unfold outs
  dsimp only
  rw [h t R b]
  unfold blockRow
  blk_ext [idx t]

end Cert.KernelIdeal.Arrays

end
-- ==== Proof.lean ====
/-
  The certificate's claims, assembled: the frames are the generated ones, the ideal program is the kernel unchanged, and the
  algebraic claim sets the kernel's four result arrays (Proof/Arrays.lean) beside the reference's run of the same arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Arrays
public import Idealize.ShloMosaic.Adequacy
public import Idealize.ShloMosaic.Init

@[expose] public section

noncomputable section

namespace Cert.Proof

open Idealize.ShloMosaic Idealize.SL.Sem

/-- The side condition of the precondition's one broadcast. -/
theorem preFacts : Cert.Pre_scales_positive.Facts := ⟨by decide⟩

/-- The precondition read: every weight scale is positive. -/
theorem scale_pos (m : (ℓ : Loc Cert.KernelIdeal.nD Cert.KernelIdeal.τ Cert.KernelIdeal.sig) → Buf (Elt Ideal) ℓ)
    (h : Cert.Pre_KernelIdeal_scales_positive (hPre_scales_positive := preFacts) m) (c : Dev Cert.KernelIdeal.nD) (f : Fin 3072) :
    (0 : EReal) < Cert.KernelIdeal.Arrays.a5 m c (ix1 f) := by
  have hf : BitVec.ofBool (decide (Ideal.ofBits .f32 0x00000000#32 < Cert.KernelIdeal.Arrays.a5 m c (ix1 f))) = 1#1 :=
    congrFun (h c) (ix1 f)
  rw [Ideal.ofBits_zero_f32] at hf
  by_contra hn
  rw [decide_eq_false hn] at hf
  exact absurd hf (by decide)

/-- Kernel and reference, from memories that agree on the arguments, leave the same four result arrays. -/
theorem algebraic : Cert.algebraic_KernelIdeal_ReferenceIdeal_pre_scales_positive (hKernelIdeal := Cert.KernelIdeal.Gen.facts)
    (hReferenceIdeal := Cert.ReferenceIdeal.Gen.facts) (hPre_scales_positive := preFacts) := by
  intro m g m' g' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h7, h8, h9, h10, hargs⟩ := h c
  obtain ⟨e0, e1, e2, e3, e4, e5, e6⟩ := hagree c
  rw [e0, e1, e2, e3, e4, e5, e6] at h7 h8 h9 h10
  exact ⟨h7.trans (Cert.KernelIdeal.Arrays.final7 m c).symm, h8.trans (Cert.KernelIdeal.Arrays.final8 m c).symm,
    h9.trans (Cert.KernelIdeal.Arrays.final9 m c (scale_pos m hpre c)).symm, h10.trans (Cert.KernelIdeal.Arrays.final10 m c).symm, hargs⟩

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
